-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_off_nodes [hKernelIdeal : Cert.KernelIdeal.Facts] [hReferenceIdeal : Cert.ReferenceIdeal.Facts] [hOn_off_nodes : Cert.On_off_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![1048576]⟩ : Shape).Idx, (Cert.On_off_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v17) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![1048576]⟩ : Shape).Idx, (Cert.On_off_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v24) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_off_nodes : Cert.On_off_nodes.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_off_nodes (hKernelIdeal := hKernelIdeal) (hReferenceIdeal := hReferenceIdeal) (hOn_off_nodes := hOn_off_nodes)
-- ==== On_off_nodes.lean ====
abbrev S1048576 : Shape := ⟨1, ![1048576]⟩
abbrev S32 : Shape := ⟨1, ![32]⟩
abbrev S1048576x1 : Shape := ⟨2, ![1048576, 1]⟩
abbrev S1x32 : Shape := ⟨2, ![1, 32]⟩
abbrev S1048576x32 : Shape := ⟨2, ![1048576, 32]⟩
abbrev S_ : Shape := ⟨0, ![]⟩

class Facts : Prop where
  bcast_S1048576_S1048576x1_0 : S1048576.BroadcastsInDim S1048576x1 (![0] : Fin 1 → Fin S1048576x1.rank)
  bcast_S32_S1x32_1 : S32.BroadcastsInDim S1x32 (![1] : Fin 1 → Fin S1x32.rank)
  bcast_S1048576x1_S1048576x32_0_1 : S1048576x1.BroadcastsInDim S1048576x32 (![0, 1] : Fin 2 → Fin S1048576x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  reducesTo_S1048576x32_S1048576_d1 : S1048576x32.ReducesTo [1] S1048576
  h_S_ : 0 < S_.numel
  bcast_S_S1048576 : S_.BroadcastsInDim S1048576 (![] : Fin 0 → Fin S1048576.rank)
  dot_S1048576x32_S32_S1048576_1_0_0_n_n_n_wf : DotDims.WF S1048576x32 S32 S1048576 [1] [0] [0] [] [] []

variable [Facts]

def dot_S1048576x32_S32_S1048576_1_0_0_n_n_n : DotDims S1048576x32 S32 S1048576 where
  lhsContracting := [1]
  rhsContracting := [0]
  lhsNonContracting := [0]
  rhsNonContracting := []
  lhsBatch := []
  rhsBatch := []
  wf := dot_S1048576x32_S32_S1048576_1_0_0_n_n_n_wf
def fn {F : FTy → Type} [FloatOps F] (main_arg0 : FVec F S1048576 .f32) (main_arg1 : FVec F S32 .f32) (main_arg2 : FVec F S32 .f32) (main_arg3 : FVec F S32 .f32) : IVec S1048576 1 :=
  let main_v0 : FVec F S1048576x1 .f32 := broadcastInDim S1048576x1 ![0] bcast_S1048576_S1048576x1_0 main_arg0
  let main_v1 : FVec F S1x32 .f32 := broadcastInDim S1x32 ![1] bcast_S32_S1x32_1 main_arg1
  let main_v2 : FVec F S1048576x32 .f32 := broadcastInDim S1048576x32 ![0, 1] bcast_S1048576x1_S1048576x32_0_1 main_v0
  let main_v3 : FVec F S1048576x32 .f32 := broadcastInDim S1048576x32 ![0, 1] bcast_S1x32_S1048576x32_0_1 main_v1
  let main_v4 : FVec F S1048576x32 .f32 := subf main_v2 main_v3
  let main_cst : FVec F S_ .f32 := constant S_ .f32 0x3F800000#32
  let main_v5 : FVec F S1048576x32 .f32 := broadcastInDim S1048576x32 ![] bcast_S_S1048576x32 main_cst
  let main_v6 : FVec F S1048576x32 .f32 := Host.divf main_v5 main_v4
  let main_v7 : FVec F S32 .f32 := mulf main_arg2 main_arg3
  let main_v8 : FVec F S1048576 .f32 := (fun l r => Host.dotGeneral dot_S1048576x32_S32_S1048576_1_0_0_n_n_n none l r) main_v6 main_v7
  let main_v9 : FVec F S1048576 .f32 := (fun l r => Host.dotGeneral dot_S1048576x32_S32_S1048576_1_0_0_n_n_n none l r) main_v6 main_arg3
  let main_v10 : FVec F S1048576 .f32 := Host.divf main_v8 main_v9
  let main_cst_0 : FVec F S_ .f32 := constant S_ .f32 0x67560000#32
  let main_v11 : FVec F S1048576x32 .f32 := broadcastInDim S1048576x32 ![] bcast_S_S1048576x32 main_cst_0
  let main_v12 : IVec S1048576x32 1 := cmpf .ole main_v6 main_v11
  let main_c : IVec S_ 1 := constantI S_ 1 1#1
  let main_v13 : IVec S1048576 1 := (fun x v => Host.reduce IntOp.andi x v reducesTo_S1048576x32_S1048576_d1 h_S_) main_v12 main_c
  let main_v14 : FVec F S1048576 .f32 := Host.absf main_v10
  let main_cst_1 : FVec F S_ .f32 := constant S_ .f32 0x7F800000#32
  let main_v15 : FVec F S1048576 .f32 := broadcastInDim S1048576 ![] bcast_S_S1048576 main_cst_1
  let main_v16 : IVec S1048576 1 := cmpf .olt main_v14 main_v15
  let main_v17 : IVec S1048576 1 := andi main_v13 main_v16
  main_v17
-- ==== Kernel.lean ====
abbrev S1048576 : Shape := ⟨1, ![1048576]⟩
abbrev S32 : Shape := ⟨1, ![32]⟩
abbrev S8192x128 : Shape := ⟨2, ![8192, 128]⟩
abbrev S8x8 : Shape := ⟨2, ![8, 8]⟩
abbrev S_ : Shape := ⟨0, ![]⟩
abbrev S1x32 : Shape := ⟨2, ![1, 32]⟩
abbrev S8x1x8x1 : Shape := ⟨4, ![8, 1, 8, 1]⟩
abbrev S1x1x1x32 : Shape := ⟨4, ![1, 1, 1, 32]⟩
abbrev S8x1x8x32 : Shape := ⟨4, ![8, 1, 8, 32]⟩
abbrev S8x256 : Shape := ⟨2, ![8, 256]⟩
abbrev S16x256 : Shape := ⟨2, ![16, 256]⟩
abbrev S32x1 : Shape := ⟨2, ![32, 1]⟩
abbrev S32x128 : Shape := ⟨2, ![32, 128]⟩
abbrev S2048x128 : Shape := ⟨2, ![2048, 128]⟩
abbrev S8x128 : Shape := ⟨2, ![8, 128]⟩
abbrev S8x1x128 : Shape := ⟨3, ![8, 1, 128]⟩
abbrev S1x32x128 : Shape := ⟨3, ![1, 32, 128]⟩
abbrev S8x32x128 : Shape := ⟨3, ![8, 32, 128]⟩
abbrev S256x128 : Shape := ⟨2, ![256, 128]⟩
abbrev S16x128 : Shape := ⟨2, ![16, 128]⟩

abbrev nBuf : Space → Nat
  | .hbm => 33
  | .vmem => 6
  | .smem => 0
  | _ => 0

abbrev bufTy : (tb : Table) → Fin (tcTables nBuf tb) → BufTy
  | .hbm, ⟨0, _⟩ => ⟨S1048576, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S8192x128, .f32⟩
  | .hbm, ⟨5, _⟩ => ⟨S32, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S1x32, .f32⟩
  | .hbm, ⟨14, _⟩ => ⟨S8x1x8x1, .f32⟩
  | .hbm, ⟨15, _⟩ => ⟨S1x1x1x32, .f32⟩
  | .hbm, ⟨16, _⟩ => ⟨S8x1x8x32, .f32⟩
  | .hbm, ⟨17, _⟩ => ⟨S8x1x8x32, .f32⟩
  | .hbm, ⟨18, _⟩ => ⟨S8x1x8x32, .f32⟩
  | .hbm, ⟨19, _⟩ => ⟨S8x256, .f32⟩
  | .hbm, ⟨20, _⟩ => ⟨S1x32, .f32⟩
  | .hbm, ⟨21, _⟩ => ⟨S8x1x8x1, .f32⟩
  | .hbm, ⟨22, _⟩ => ⟨S1x1x1x32, .f32⟩
  | .hbm, ⟨23, _⟩ => ⟨S8x1x8x32, .f32⟩
  | .hbm, ⟨24, _⟩ => ⟨S8x1x8x32, .f32⟩
  | .hbm, ⟨25, _⟩ => ⟨S8x1x8x32, .f32⟩
  | .hbm, ⟨26, _⟩ => ⟨S8x256, .f32⟩
  | .hbm, ⟨27, _⟩ => ⟨S16x256, .f32⟩
  | .hbm, ⟨28, _⟩ => ⟨S16x256, .bf16⟩
  | .hbm, ⟨29, _⟩ => ⟨S32x1, .f32⟩
  | .hbm, ⟨30, _⟩ => ⟨S32x128, .f32⟩
  | .hbm, ⟨31, _⟩ => ⟨S8192x128, .f32⟩
  | .hbm, ⟨32, _⟩ => ⟨S1048576, .f32⟩
  | .local _ .vmem, ⟨0, _⟩ => ⟨S32x128, .f32⟩
  | .local _ .vmem, ⟨1, _⟩ => ⟨S16x256, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_v10 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1048576 : Shape := ⟨1, ![1048576]⟩
abbrev S32 : Shape := ⟨1, ![32]⟩
abbrev S1048576x1 : Shape := ⟨2, ![1048576, 1]⟩
abbrev S1x32 : Shape := ⟨2, ![1, 32]⟩
abbrev S1048576x32 : Shape := ⟨2, ![1048576, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S1048576x1, .f32⟩
  | .hbm, ⟨5, _⟩ => ⟨S1x32, .f32⟩
  | .hbm, ⟨6, _⟩ => ⟨S1048576x32, .f32⟩
  | .hbm, ⟨7, _⟩ => ⟨S1048576x32, .f32⟩
  | .hbm, ⟨8, _⟩ => ⟨S1048576x32, .f32⟩
  | .hbm, ⟨9, _⟩ => ⟨S_, .f32⟩
  | .hbm, ⟨10, _⟩ => ⟨S1048576x32, .f32⟩
  | .hbm, ⟨11, _⟩ => ⟨S1048576x32, .i1⟩
  | .hbm, ⟨12, _⟩ => ⟨S_, .f32⟩
  | .hbm, ⟨13, _⟩ => ⟨S1048576x32, .f32⟩
  | .hbm, ⟨14, _⟩ => ⟨S1048576x32, .f32⟩
  | .hbm, ⟨15, _⟩ => ⟨S_, .f32⟩
  | .hbm, ⟨16, _⟩ => ⟨S1048576x32, .f32⟩
  | .hbm, ⟨17, _⟩ => ⟨S1048576x32, .f32⟩
  | .hbm, ⟨18, _⟩ => ⟨S32, .f32⟩
  | .hbm, ⟨19, _⟩ => ⟨S1048576, .f32⟩
  | .hbm, ⟨20, _⟩ => ⟨S1048576, .f32⟩
  | .hbm, ⟨21, _⟩ => ⟨S1048576, .f32⟩
  | .hbm, ⟨22, _⟩ => ⟨S_, .i1⟩
  | .hbm, ⟨23, _⟩ => ⟨S1048576, .i1⟩
  | .hbm, ⟨24, _⟩ => ⟨S1048576x32, .i32⟩
  | .hbm, ⟨25, _⟩ => ⟨S_, .i1⟩
  | .hbm, ⟨26, _⟩ => ⟨S_, .i32⟩
  | .hbm, ⟨27, _⟩ => ⟨S1048576, .i1⟩
  | .hbm, ⟨28, _⟩ => ⟨S1048576, .i32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1048576, .f32⟩
  | .hbm, ⟨38, _⟩ => ⟨S1048576, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call1_v0 : Ref sig .tc := ⟨.hbm, 24, rfl⟩
abbrev main_call1_c : Ref sig .tc := ⟨.hbm, 25, rfl⟩
abbrev main_call1_c_0 : Ref sig .tc := ⟨.hbm, 26, rfl⟩
abbrev main_call1_v1_0 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Bary.lean ====
/-
  The interpolation at ONE query, over the extended reals, with no program in it.

  `quot` is the barycentric quotient a query's reciprocal differences give; `kernelOut` is what the kernel makes of the
  same numbers: each reciprocal bounded from above by `CAP`, and a quotient that is infinite replaced by the query's
  square. `kernelOut_eq_quot` says that the two agree where no reciprocal exceeds the bound and the quotient is finite.
-/
module

public import Idealize.ShloMosaic.Lib.IdealHost

@[expose] public section

noncomputable section

namespace Cert.Proof.Bary

open Idealize.ShloMosaic
open scoped BigOperators

/-- The kernel's upper bound on a reciprocal: its bf16 literal, as an extended real. -/
def CAP : EReal := Ideal.ofBits .bf16 0x6756#16

/-- The bound is the real 107 · 2⁷³. -/
theorem CAP_eq : CAP = (((107 * 2 ^ 73 : ℕ) : ℝ) : EReal) := by
  unfold CAP
  simp [Ideal.ofBits, Ideal.ieee, -EReal.coe_mul]
  norm_num

/-- The bound is finite. -/
theorem CAP_lt_top : CAP < ⊤ := by rw [CAP_eq]; exact EReal.coe_lt_top _

/-- The same literal widened to f32 is the same number. -/
theorem ofBits_cap_f32 : Ideal.ofBits .f32 0x67560000#32 = CAP := by
  rw [CAP_eq]
  simp [Ideal.ofBits, Ideal.ieee, -EReal.coe_mul]
  norm_num

/-- The f32 pattern of infinity is the top element. -/
theorem ofBits_inf_f32 : Ideal.ofBits .f32 0x7F800000#32 = ⊤ := by
  simp [Ideal.ofBits, Ideal.ieee]

variable (x : EReal) (xi fi wi : Fin 32 → EReal)

/-- The reciprocal of the query's distance to node `j`. -/
def recip (j : Fin 32) : EReal := Ideal.div 1 (x - xi j)

/-- The barycentric quotient. -/
def quot : EReal := Ideal.div (∑ j, recip x xi j * (fi j * wi j)) (∑ j, recip x xi j * wi j)

/-- The quotient of the bounded reciprocals, the factors in the kernel's order. -/
def capped : EReal :=
  Ideal.div (∑ j, (fi j * wi j) * min (recip x xi j) CAP) (∑ j, wi j * min (recip x xi j) CAP)

/-- The kernel's result at the query. -/
def kernelOut : EReal := if capped x xi fi wi = ⊤ ∨ capped x xi fi wi = ⊥ then x * x else capped x xi fi wi

variable {x xi fi wi}

/-- A reciprocal within the bound is of a distance that is not zero: over the extended reals `1 / 0` is the top. -/
theorem sub_ne_zero_of_recip_le {j : Fin 32} (h : recip x xi j ≤ CAP) : x - xi j ≠ 0 := by
  intro h0
  unfold recip Ideal.div at h
  rw [if_pos h0, if_pos zero_lt_one] at h
  exact absurd (lt_of_le_of_lt h CAP_lt_top) (lt_irrefl _)

/-- Where no reciprocal exceeds the bound, bounding them changes nothing. -/
theorem capped_eq_quot (h : ∀ j, recip x xi j ≤ CAP) : capped x xi fi wi = quot x xi fi wi := by
  unfold capped quot
  congr 1 <;> refine Finset.sum_congr rfl fun j _ => ?_ <;> rw [min_eq_left (h j), mul_comm]

/-- A number whose absolute value is below the top is neither infinity. -/
theorem finite_of_abs_lt_top {q : EReal} (h : max q (-q) < ⊤) : ¬(q = ⊤ ∨ q = ⊥) := by
  rintro (rfl | rfl) <;> simp at h

/-- Where no reciprocal exceeds the bound and the quotient is finite, the kernel's result is the quotient. -/
theorem kernelOut_eq_quot (h : ∀ j, recip x xi j ≤ CAP) (hq : max (quot x xi fi wi) (-quot x xi fi wi) < ⊤) :
    kernelOut x xi fi wi = quot x xi fi wi := by
  unfold kernelOut
  rw [capped_eq_quot h, if_neg (finite_of_abs_lt_top hq)]

end Cert.Proof.Bary

end
-- ==== Proof.Tile.lean ====
/-
  ONE SUB-TILE of the kernel's body: eight rows of queries against the 32 nodes.

  `tile` is the chain of vector operations the body runs on each eight-row slab of its query block; the body repeats it
  over the slabs. `tile_apply` reads it at one query, at the ideal values: the quotient of two rows of one product of
  the (16, 256) factor matrix with the (256, 128) bounded reciprocals, or the query's square where that quotient is
  infinite. `tile_blockDiag` then takes the factor matrix to be block diagonal — eight copies of the node factors
  f·w above eight copies of the weights w, what the host lays out — and gets the per-query `Bary.kernelOut`.
-/
module

public import proofs.«01_k».proof.Proof.Gen.KernelIdeal
public import proofs.«01_k».proof.Proof.Bary
public import Idealize.ShloMosaic.Lib.MatmulPlain
public import Idealize.ShloMosaic.Lib.ValueLayout
public import Idealize.ShloMosaic.Lib.Pipeline.Value

@[expose] public section

noncomputable section

namespace Cert.Proof.Tile

open Cert.KernelIdeal Cert.KernelIdeal.Gen
open Idealize.ShloMosaic Idealize.ShloMosaic.ValueIdx
open scoped BigOperators

variable {F : FTy → Type} [FloatOps F]

/-- The bounded reciprocals of a slab: row `32 a + j`, lane `l` holds the reciprocal of query (a, l)'s distance to node
    `j`, at most the bf16 bound. -/
def caps (v1 : FVec F S32x128 .f32) (v : FVec F S8x128 .f32) : FVec F S256x128 .bf16 :=
  minimumf
    (truncf .bf16 (divf (broadcast S256x128 (Scalar.ofBits .f32 0x3F800000#32))
      (shapeCast S256x128
        (subf (broadcastTo S8x32x128 (shapeCast S8x1x128 v shapeCasts_S8x128_S8x1x128) broadcasts_S8x1x128_S8x32x128)
          (broadcastTo S8x32x128 (shapeCast S1x32x128 v1 shapeCasts_S32x128_S1x32x128) broadcasts_S1x32x128_S8x32x128))
        shapeCasts_S8x32x128_S256x128)) bitsLt_bf16_f32)
    (broadcast S256x128 (Scalar.ofBits .bf16 0x6756#16))

/-- The product of the factor matrix with the bounded reciprocals: numerators in rows 0–7, denominators in rows 8–15. -/
def sums (v1 : FVec F S32x128 .f32) (v3 : FVec F S16x256 .bf16) (v : FVec F S8x128 .f32) : FVec F S16x128 .f32 :=
  matmul dot_S16x256_S256x128_S16x128_1_0_0_1_n_n none v3 (caps v1 v) (constant S16x128 .f32 0x00000000#32)

/-- The slab's quotients. -/
def quots (v1 : FVec F S32x128 .f32) (v3 : FVec F S16x256 .bf16) (v : FVec F S8x128 .f32) : FVec F S8x128 .f32 :=
  divf (extractStridedSlice S8x128 ![0, 0] (sums v1 v3 v) slices_S16x128_o0_0_S8x128)
    (extractStridedSlice S8x128 ![8, 0] (sums v1 v3 v) slices_S16x128_o8_0_S8x128)

/-- One sub-tile: the quotients, and the queries' squares where a quotient is not finite. -/
def tile (v1 : FVec F S32x128 .f32) (v3 : FVec F S16x256 .bf16) (v : FVec F S8x128 .f32) : FVec F S8x128 .f32 :=
  select (xori (weird (quots v1 v3 v)) (constantI S8x128 1 1#1)) (quots v1 v3 v) (mulf v v)

/-! ## The bounded reciprocals at an index -/

/-- Row `32 a + j` of the 256: the pair (query row, node). -/
def row (a : Fin 8) (j : Fin 32) : Fin 256 := ⟨32 * a.val + j.val, by omega⟩

/-- The bounded reciprocal in row `32 a + j`, lane `l`. -/
theorem caps_apply (v1 : FVec Ideal S32x128 .f32) (v : FVec Ideal S8x128 .f32) (a : Fin 8) (j : Fin 32) (l : Fin 128) :
    caps v1 v (ix2 (row a j) l) = min (Ideal.div 1 (v (ix2 a l) - v1 (ix2 j l))) Bary.CAP := by
  have e : shapeCast S256x128
        (subf (broadcastTo S8x32x128 (shapeCast S8x1x128 v shapeCasts_S8x128_S8x1x128) broadcasts_S8x1x128_S8x32x128)
          (broadcastTo S8x32x128 (shapeCast S1x32x128 v1 shapeCasts_S32x128_S1x32x128) broadcasts_S1x32x128_S8x32x128))
        shapeCasts_S8x32x128_S256x128 (ix2 (row a j) l) = v (ix2 a l) - v1 (ix2 j l) := by
    rw [shapeCast_apply _ _ _ (ix3 a j l) (by
      rw [Shape.rowMajor_val_two, Shape.rowMajor_val_three]
      show (a.val * 32 + j.val) * 128 + l.val = (32 * a.val + j.val) * 128 + l.val
      omega), subf_apply]
    congr 1
    · rw [broadcastTo_apply _ _ _ (ix3 a (0 : Fin 1) l) (by
        intro b; match b with | ⟨0, _⟩ => rfl | ⟨1, _⟩ => rfl | ⟨2, _⟩ => rfl)]
      exact shapeCast_apply _ _ _ _ (by
        rw [Shape.rowMajor_val_two, Shape.rowMajor_val_three]
        show a.val * 128 + l.val = (a.val * 1 + 0) * 128 + l.val
        omega)
    · rw [broadcastTo_apply _ _ _ (ix3 (0 : Fin 1) j l) (by
        intro b; match b with | ⟨0, _⟩ => rfl | ⟨1, _⟩ => rfl | ⟨2, _⟩ => rfl)]
      exact shapeCast_apply _ _ _ _ (by
        rw [Shape.rowMajor_val_two, Shape.rowMajor_val_three]
        show j.val * 128 + l.val = (0 * 32 + j.val) * 128 + l.val
        omega)
  show min (Ideal.div (Ideal.ofBits .f32 0x3F800000#32) _) (Ideal.ofBits .bf16 0x6756#16) = _
  rw [e, Ideal.ofBits_one_f32]
  rfl

/-! ## The product at an index -/

/-- The 256 rows are the eight query rows times the 32 nodes. -/
theorem sum_rows (f : Fin 256 → EReal) : ∑ k, f k = ∑ a : Fin 8, ∑ j : Fin 32, f (row a j) := by
  rw [← Fintype.sum_prod_type', ← Equiv.sum_comp (finProdFinEquiv (m := 8) (n := 32))]
  refine Finset.sum_congr rfl fun p _ => congrArg f (Fin.ext ?_)
  show p.2.val + 32 * p.1.val = 32 * p.1.val + p.2.val
  omega

/-- Row `r`, lane `l` of the product: the sum over query rows and nodes. -/
theorem sums_apply (v1 : FVec Ideal S32x128 .f32) (v3 : FVec Ideal S16x256 .bf16) (v : FVec Ideal S8x128 .f32)
    (r : Fin 16) (l : Fin 128) :
    sums v1 v3 v (ix2 r l)
      = ∑ a : Fin 8, ∑ j : Fin 32, v3 (ix2 r (row a j)) * min (Ideal.div 1 (v (ix2 a l) - v1 (ix2 j l))) Bary.CAP := by
  show FloatOps.matmul (DotDims.plain 16 256 128) none v3 (caps v1 v) (constant S16x128 .f32 0x00000000#32) (ix2 r l) = _
  rw [Ideal.matmul_plain_apply, constant_apply, Ideal.ofBits_zero_f32, zero_add, sum_rows]
  simp only [caps_apply]

/-- Row `a` of the first eight of the product. -/
def lo (a : Fin 8) : Fin 16 := ⟨a.val, by omega⟩
/-- Row `a` of the second eight. -/
def hi (a : Fin 8) : Fin 16 := ⟨8 + a.val, by omega⟩

/-- The quotient at a query: row `a` of the product over row `8 + a`. -/
theorem quots_apply (v1 : FVec Ideal S32x128 .f32) (v3 : FVec Ideal S16x256 .bf16) (v : FVec Ideal S8x128 .f32)
    (a : Fin 8) (l : Fin 128) :
    quots v1 v3 v (ix2 a l) = Ideal.div (sums v1 v3 v (ix2 (lo a) l)) (sums v1 v3 v (ix2 (hi a) l)) := by
  unfold quots
  rw [divf_apply, slice2_axis0_apply 0 _ _ a l (lo a) (by simp [lo]), slice2_axis0_apply 8 _ _ a l (hi a) (by simp [hi])]

/-- A sub-tile at a query: its quotient if finite, else the query's square. -/
theorem tile_apply (v1 : FVec Ideal S32x128 .f32) (v3 : FVec Ideal S16x256 .bf16) (v : FVec Ideal S8x128 .f32)
    (i : S8x128.Idx) :
    tile v1 v3 v i = if quots v1 v3 v i = ⊤ ∨ quots v1 v3 v i = ⊥ then v i * v i else quots v1 v3 v i := by
  show Scalar.select (IntOp.xori (BitVec.ofBool (decide (quots v1 v3 v i = ⊤ ∨ quots v1 v3 v i = ⊥))) 1#1)
    (quots v1 v3 v i) (v i * v i) = _
  by_cases h : quots v1 v3 v i = ⊤ ∨ quots v1 v3 v i = ⊥
  · rw [if_pos h, decide_eq_true h]; rfl
  · rw [if_neg h, decide_eq_false h]; rfl

/-! ## A block-diagonal factor matrix -/

/-- The factor matrix the kernel is given, entry by entry: in row `r` of the first eight, and in row `8 + r` of the last,
    the identity's entry (r, a) times the node's factor. -/
def BlockDiag (v3 : FVec Ideal S16x256 .bf16) (g w : Fin 32 → EReal) : Prop :=
  ∀ (r a : Fin 8) (j : Fin 32),
    v3 (ix2 (lo r) (row a j)) = (if r = a then 1 else 0) * g j ∧ v3 (ix2 (hi r) (row a j)) = (if r = a then 1 else 0) * w j

/-- A sum against one diagonal block keeps that block's terms: zero times anything is zero over the extended reals. -/
theorem sum_diag (r : Fin 8) (g : Fin 32 → EReal) (c : Fin 8 → Fin 32 → EReal) :
    ∑ a : Fin 8, ∑ j : Fin 32, ((if r = a then 1 else 0) * g j) * c a j = ∑ j : Fin 32, g j * c r j := by
  rw [Finset.sum_eq_single r]
  · simp
  · intro a _ ha
    exact Finset.sum_eq_zero fun j _ => by rw [if_neg (Ne.symm ha), zero_mul, zero_mul]
  · intro h; exact absurd (Finset.mem_univ r) h

/-- With a block-diagonal factor matrix a sub-tile computes the kernel's per-query result. -/
theorem tile_blockDiag (v1 : FVec Ideal S32x128 .f32) (v3 : FVec Ideal S16x256 .bf16) (v : FVec Ideal S8x128 .f32)
    (xi fi wi : Fin 32 → EReal) (h1 : ∀ j l, v1 (ix2 j l) = xi j) (h3 : BlockDiag v3 (fun j => fi j * wi j) wi)
    (a : Fin 8) (l : Fin 128) : tile v1 v3 v (ix2 a l) = Bary.kernelOut (v (ix2 a l)) xi fi wi := by
  have e : quots v1 v3 v (ix2 a l) = Bary.capped (v (ix2 a l)) xi fi wi := by
    rw [quots_apply, sums_apply, sums_apply]
    simp only [(h3 a _ _).1, (h3 a _ _).2, h1]
    rw [sum_diag a (fun j => fi j * wi j), sum_diag a wi]
    rfl
  rw [tile_apply, e]
  rfl

end Cert.Proof.Tile

end
-- ==== Proof.Block.lean ====
/-
  ONE GRID POINT'S result block, (2048, 128): the body's 256 stores are the 256 sub-tiles of the point's query block.

  `out_eq_of_tiles` says that a function of the block index which agrees with `Tile.tile` on every eight-row slab is the
  whole block: each store's payload is `tile` of the slab its rectangle names, and the stores cover the block.
  `out_apply` is the block at the ideal values under the factor matrix the host lays out: every entry is the kernel's
  per-query result of the query at the same place.
-/
module

public import proofs.«01_k».proof.Proof.Gen.KernelIdeal.Frame
public import proofs.«01_k».proof.Proof.Tile

@[expose] public section

set_option maxRecDepth 16384

noncomputable section

namespace Cert.Proof.Block

open Cert.KernelIdeal Cert.KernelIdeal.Gen
open Idealize.ShloMosaic Idealize.ShloMosaic.ValueIdx
open Cert.Proof.Tile

variable {F : FTy → Type} [FloatOps F]

/-- The eight rows of a query block a rectangle of the body's loads names. -/
abbrev slab (x2 : Vec F S2048x128 .f32) (o : Nat) (inb : ∀ a, (![o, 0] : Fin 2 → Nat) a + S8x128.size a ≤ S2048x128.size a) :
    FVec F S8x128 .f32 :=
  shapeCast S8x128 (View.ld x2 (Rect.unit (s := S2048x128) ![o, 0] S8x128.size inb)) shapeCasts_S8x128_S8x128

/-- A function of the block index that agrees with `tile` on every eight-row slab is what the body leaves. -/
theorem out_eq_of_tiles (x0 : Vec F S32x128 .f32) (x1 : Vec F S16x256 .bf16) (x2 : Vec F S2048x128 .f32)
    (G : Vec F S2048x128 .f32)
    (hG : ∀ (o : Nat) (inb : ∀ a, (![o, 0] : Fin 2 → Nat) a + S8x128.size a ≤ S2048x128.size a) (x : S8x128.Idx),
      tile (k0_pay2 (View.ld x0 r0_0)) (k0_pay3 (View.ld x1 r0_1)) (slab x2 o inb) x
        = G ((Rect.unit (s := S2048x128) ![o, 0] S8x128.size inb).emb x))
    (y : S2048x128.Idx) : out0_3 x0 x1 x2 y = G y := by
  unfold out0_3 k0_pay512 k0_pay513
  refine View.canon_apply_of_pieces G _ ?_ y (by apply cover0_3)
  iterate 256 refine List.forall_mem_cons.2 ⟨fun x => hG _ _ x, ?_⟩
  exact fun _ h => absurd h List.not_mem_nil

theorem off_zero : (![0, 0] : Fin 2 → Nat) = fun _ => 0 := funext fun a => by fin_cases a <;> rfl

/-- At the ideal values, with the nodes in every lane of `x0` and `x1` block diagonal, the body leaves at every entry of the
    block the kernel's per-query result of the query there. -/
theorem out_apply (x0 : Vec Ideal S32x128 .f32) (x1 : Vec Ideal S16x256 .bf16) (x2 : Vec Ideal S2048x128 .f32)
    (xi fi wi : Fin 32 → EReal) (h0 : ∀ j l, x0 (ix2 j l) = xi j) (h1 : BlockDiag x1 (fun j => fi j * wi j) wi)
    (y : S2048x128.Idx) : out0_3 x0 x1 x2 y = Bary.kernelOut (x2 y) xi fi wi := by
  refine out_eq_of_tiles x0 x1 x2 (fun y => Bary.kernelOut (x2 y) xi fi wi) (fun o inb x => ?_) y
  have e0 : k0_pay2 (View.ld x0 r0_0) = x0 := by
    unfold k0_pay2; rw [shapeCast_self]; exact View.ld_unit_zero off_zero _ _
  have e1 : k0_pay3 (View.ld x1 r0_1) = x1 := by
    unfold k0_pay3; rw [shapeCast_self]; exact View.ld_unit_zero off_zero _ _
  have e2 : slab x2 o inb = View.ld x2 (Rect.unit (s := S2048x128) ![o, 0] S8x128.size inb) := shapeCast_self _ _
  obtain ⟨a, l, rfl⟩ : ∃ (a : Fin 8) (l : Fin 128), x = ix2 a l := ⟨x 0, x 1, eq_ix2 x⟩
  rw [e0, e1, e2, tile_blockDiag _ _ _ xi fi wi h0 h1]
  rfl

end Cert.Proof.Block

end
-- ==== Proof.HostArgs.lean ====
/-
  WHAT THE HOST HANDS THE KERNEL: the three arrays the pallas_call reads, from the program's arguments.

  Before the call the program reshapes the queries to (8192, 128), spreads the nodes over 128 lanes, and builds the
  (16, 256) factor matrix: the Kronecker product of the 8×8 identity with the node factors f·w above that with the
  weights w. `V_nodes`, `V_factors`, `V_queries` name those arrays at the call's entry; `nodes_apply`,
  `factors_blockDiag`, `queries_apply` read them at an index.
-/
module

public import proofs.«01_k».proof.Proof.Gen.KernelIdeal.Frame
public import proofs.«01_k».proof.Proof.Tile
public import Idealize.ShloMosaic.Lib.StableHlo.Run

@[expose] public section

noncomputable section

namespace Cert.Proof.HostArgs

open Cert.KernelIdeal Cert.KernelIdeal.Gen
open Idealize.ShloMosaic Idealize.ShloMosaic.TcCoe Idealize.ShloMosaic.ValueIdx Idealize.ShloMosaic.StableHlo Idealize.SL.Sem
open Cert.Proof.Tile

variable {F : FTy → Type} [FloatOps F]

/-- The 8×8 identity as the host builds it: row index plus zero compared with column index. -/
def eye : FVec F S8x8 .f32 :=
  uitofp .f32 (cmpi .eq (addi (iotaInDim S8x8 32 0) (broadcastInDim S8x8 ![] bcast_S_S8x8 (constantI S_ 32 0#32))) (iotaInDim S8x8 32 1))

/-- The identity's Kronecker product with one row of 32 factors. -/
def kron (g : FVec F S32 .f32) : FVec F S8x256 .f32 :=
  shapeCast S8x256
    (mulf (broadcastInDim S8x1x8x32 ![0, 1, 2, 3] bcast_S8x1x8x1_S8x1x8x32_0_1_2_3
        (broadcastInDim S8x1x8x1 ![0, 2] bcast_S8x8_S8x1x8x1_0_2 (eye (F := F))))
      (broadcastInDim S8x1x8x32 ![0, 1, 2, 3] bcast_S1x1x1x32_S8x1x8x32_0_1_2_3
        (broadcastInDim S1x1x1x32 ![1, 3] bcast_S1x32_S1x1x1x32_1_3 (broadcastInDim S1x32 ![1] bcast_S32_S1x32_1 g))))
    shapeCasts_S8x1x8x32_S8x256

/-- The factor matrix. -/
def factors (fi wi : FVec F S32 .f32) : FVec F S16x256 .bf16 :=
  truncf .bf16 (concatenate S16x256 0 [⟨S8x256, kron (mulf fi wi)⟩, ⟨S8x256, kron wi⟩] concatenates_S8x256_S8x256_S16x256_d0) bitsLt_bf16_f32

/-- The nodes over 128 lanes. -/
def nodes (xi : FVec F S32 .f32) : FVec F S32x128 .f32 :=
  broadcastInDim S32x128 ![0, 1] bcast_S32x1_S32x128_0_1 (broadcastInDim S32x1 ![0] bcast_S32_S32x1_0 xi)

/-- The queries in rows of 128. -/
def queries (x : FVec F S1048576 .f32) : FVec F S8192x128 .f32 := shapeCast S8192x128 x shapeCasts_S1048576_S8192x128

variable (m : (ℓ : Loc nD τ sig) → Buf (Elt F) ℓ)

/-- The call's first operand is the nodes over the lanes. -/
theorem V_nodes (c : Dev nD) : V m c main_v15 = nodes (m ((c : Thread nD τ).loc main_arg1)) := by
  show after (List.flatten [hostOps0, hostOps0_1, hostOps0_2, hostOps0_3, hostOps0_4]) (fun b => m (c, b)) (main_v15 : DevRef τ sig) = _
  simp only [List.flatten_cons, List.flatten_nil, List.append_nil, List.cons_append, List.nil_append]
  after_results
  rfl

/-- The call's second operand is the factor matrix. -/
theorem V_factors (c : Dev nD) :
    V m c main_v13 = factors (m ((c : Thread nD τ).loc main_arg2)) (m ((c : Thread nD τ).loc main_arg3)) := by
  show after (List.flatten [hostOps0, hostOps0_1, hostOps0_2, hostOps0_3, hostOps0_4]) (fun b => m (c, b)) (main_v13 : DevRef τ sig) = _
  simp only [List.flatten_cons, List.flatten_nil, List.append_nil, List.cons_append, List.nil_append]
  after_results
  rfl

/-- The call's third operand is the queries in rows of 128. -/
theorem V_queries (c : Dev nD) : V m c main_v0 = queries (m ((c : Thread nD τ).loc main_arg0)) := by
  show after (List.flatten [hostOps0, hostOps0_1, hostOps0_2, hostOps0_3, hostOps0_4]) (fun b => m (c, b)) (main_v0 : DevRef τ sig) = _
  simp only [List.flatten_cons, List.flatten_nil, List.append_nil, List.cons_append, List.nil_append]
  after_results
  rfl

/-! ## The three arrays at an index, at the ideal values -/

/-- Every lane of row `j` holds node `j`. -/
theorem nodes_apply (xi : FVec F S32 .f32) (j : Fin 32) (l : Fin 128) : nodes xi (ix2 j l) = xi (ix1 j) := by
  unfold nodes
  rw [broadcastInDim_apply _ _ _ _ (ix2 j (0 : Fin 1)) (by intro b; match b with | ⟨0, _⟩ => rfl | ⟨1, _⟩ => rfl)]
  exact broadcastInDim_apply _ _ _ _ _ (by intro b; match b with | ⟨0, _⟩ => rfl)

/-- The identity's entries. -/
theorem eye_apply (r a : Fin 8) : (eye (ix2 r a) : Ideal .f32) = if r = a then 1 else 0 := by
  have key : ∀ r a : Fin 8, IntOp.cmpi .eq (IntOp.addi (BitVec.ofNat 32 r.val) 0#32) (BitVec.ofNat 32 a.val) = if r = a then 1#1 else 0#1 := by
    decide
  show (((IntOp.cmpi .eq (IntOp.addi (BitVec.ofNat 32 r.val) 0#32) (BitVec.ofNat 32 a.val)).toNat : ℝ) : EReal) = _
  rw [key r a]
  split <;> simp

/-- The Kronecker product's entry in row `r`, column `32 a + j`. -/
theorem kron_apply (g : FVec Ideal S32 .f32) (r a : Fin 8) (j : Fin 32) :
    kron g (ix2 r (row a j)) = (if r = a then 1 else 0) * g (ix1 j) := by
  unfold kron
  rw [shapeCast_apply _ _ _ (ix4 r (0 : Fin 1) a j) (by
    rw [Shape.rowMajor_val_two, Shape.rowMajor_val_four]
    show ((r.val * 1 + 0) * 8 + a.val) * 32 + j.val = r.val * 256 + (32 * a.val + j.val)
    omega), mulf_apply]
  congr 1
  · rw [broadcastInDim_apply _ _ _ _ (ix4 r (0 : Fin 1) a (0 : Fin 1)) (by
      intro b; match b with | ⟨0, _⟩ => rfl | ⟨1, _⟩ => rfl | ⟨2, _⟩ => rfl | ⟨3, _⟩ => rfl),
      broadcastInDim_apply _ _ _ _ (ix2 r a) (by intro b; match b with | ⟨0, _⟩ => rfl | ⟨1, _⟩ => rfl)]
    exact eye_apply r a
  · rw [broadcastInDim_apply _ _ _ _ (ix4 (0 : Fin 1) (0 : Fin 1) (0 : Fin 1) j) (by
      intro b; match b with | ⟨0, _⟩ => rfl | ⟨1, _⟩ => rfl | ⟨2, _⟩ => rfl | ⟨3, _⟩ => rfl),
      broadcastInDim_apply _ _ _ _ (ix2 (0 : Fin 1) j) (by intro b; match b with | ⟨0, _⟩ => rfl | ⟨1, _⟩ => rfl)]
    exact broadcastInDim_apply _ _ _ _ _ (by intro b; match b with | ⟨0, _⟩ => rfl)

/-- The factor matrix is block diagonal in both halves. -/
theorem factors_blockDiag (fi wi : FVec Ideal S32 .f32) :
    BlockDiag (factors fi wi) (fun j => fi (ix1 j) * wi (ix1 j)) (fun j => wi (ix1 j)) := by
  intro r a j
  constructor
  · show concatenate S16x256 0 [⟨S8x256, kron (mulf fi wi)⟩, ⟨S8x256, kron wi⟩] concatenates_S8x256_S8x256_S16x256_d0 (ix2 (lo r) (row a j)) = _
    rw [concatenate_apply_piece (t := S16x256) 0 [⟨S8x256, kron (mulf fi wi)⟩, ⟨S8x256, kron wi⟩] concatenates_S8x256_S8x256_S16x256_d0 (ix2 (lo r) (row a j))
      0 (by simp) S8x256 (kron (mulf fi wi)) rfl rfl 0 rfl (ix2 r (row a j))
      (by intro b hb; match b with | ⟨0, _⟩ => exact absurd rfl hb | ⟨1, _⟩ => rfl) (by simp [lo]), kron_apply]
    rfl
  · show concatenate S16x256 0 [⟨S8x256, kron (mulf fi wi)⟩, ⟨S8x256, kron wi⟩] concatenates_S8x256_S8x256_S16x256_d0 (ix2 (hi r) (row a j)) = _
    rw [concatenate_apply_piece (t := S16x256) 0 [⟨S8x256, kron (mulf fi wi)⟩, ⟨S8x256, kron wi⟩] concatenates_S8x256_S8x256_S16x256_d0 (ix2 (hi r) (row a j))
      1 (by simp) S8x256 (kron wi) rfl rfl 8 rfl (ix2 r (row a j))
      (by intro b hb; match b with | ⟨0, _⟩ => exact absurd rfl hb | ⟨1, _⟩ => rfl) (by simp [hi]), kron_apply]

/-- Query `128 p + l` is in row `p`, lane `l`. -/
theorem queries_apply (x : FVec F S1048576 .f32) (p : Fin 8192) (l : Fin 128) (q : Fin 1048576) (h : q.val = p.val * 128 + l.val) :
    queries x (ix2 p l) = x (ix1 q) :=
  shapeCast_apply _ _ _ _ (by rw [Shape.rowMajor_val_two, Shape.rowMajor_val_one]; exact h)

end Cert.Proof.HostArgs

end
-- ==== Proof.KernelValue.lean ====
/-
  THE KERNEL'S RESULT, query by query, at the ideal values: entry `i` of the (1048576) array the program returns is
  `Bary.kernelOut` of query `i`.

  `flushed_eq`: what each of the four grid points writes back is its block of one whole-array function, `rows`.
  `cover`: the four blocks are the whole array, so the array ends holding it (`final`). `result_apply` reads the reshape
  after the call, and `run` is the program's run with the result and the arguments read off.
-/
module

public import proofs.«01_k».proof.Proof.Block
public import proofs.«01_k».proof.Proof.HostArgs
public import Idealize.ShloMosaic.Lib.Pipeline.Value

@[expose] public section

noncomputable section

namespace Cert.Proof.KernelValue

open Cert.KernelIdeal Cert.KernelIdeal.Gen
open Idealize.ShloMosaic Idealize.ShloMosaic.TcCoe Idealize.ShloMosaic.ValueIdx Idealize.ShloMosaic.StableHlo Idealize.SL.Sem
open Idealize.ShloMosaic.Pipeline (Dat)
open Cert.Proof.HostArgs

variable (m : (ℓ : Loc nD τ sig) → Buf (Elt Ideal) ℓ) (ρ : Dev nD → PrngReg)

/-- Device `c`'s queries, nodes, node values and weights. -/
abbrev argX (c : Dev nD) : FVec Ideal S1048576 .f32 := m ((c : Thread nD τ).loc main_arg0)
abbrev argXi (c : Dev nD) : FVec Ideal S32 .f32 := m ((c : Thread nD τ).loc main_arg1)
abbrev argFi (c : Dev nD) : FVec Ideal S32 .f32 := m ((c : Thread nD τ).loc main_arg2)
abbrev argWi (c : Dev nD) : FVec Ideal S32 .f32 := m ((c : Thread nD τ).loc main_arg3)

/-- The kernel's per-query result as a function of the query, on device `c`. -/
def at_ (c : Dev nD) (x : EReal) : EReal :=
  Bary.kernelOut x (fun j => argXi m c (ix1 j)) (fun j => argFi m c (ix1 j)) (fun j => argWi m c (ix1 j))

/-- The whole (8192, 128) array the call leaves: the per-query result of each query. -/
def rows (c : Dev nD) : FVec Ideal S8192x128 .f32 := fun y => at_ m c (queries (argX m c) y)

/-- The nodes' block at every grid point is the whole array. -/
theorem iblk0_apply (c : Dev nD) (t : Fin cfg0.N) (j : Fin 32) (l : Fin 128) :
    (iblk m c 0 t : Vec Ideal S32x128 .f32) (ix2 j l) = argXi m c (ix1 j) := by
  have e : ((cfg0.win 0).blk t).view.emb (ix2 j l) = (ix2 j l : S32x128.Idx) :=
    funext fun a => Fin.ext (win0_0.rect_emb_val_of_index_zero t a (by fin_cases a <;> rfl) (ix2 j l))
  show V m c main_v15 (((cfg0.win 0).blk t).view.emb (ix2 j l)) = _
  rw [e, V_nodes]
  exact nodes_apply _ j l

/-- The factor matrix's block at every grid point is the whole array, -/
theorem iblk1_apply (c : Dev nD) (t : Fin cfg0.N) (r : Fin 16) (k : Fin 256) :
    (iblk m c 1 t : Vec Ideal S16x256 .bf16) (ix2 r k) = factors (argFi m c) (argWi m c) (ix2 r k) := by
  have e : ((cfg0.win 1).blk t).view.emb (ix2 r k) = (ix2 r k : S16x256.Idx) :=
    funext fun a => Fin.ext (win0_1.rect_emb_val_of_index_zero t a (by fin_cases a <;> rfl) (ix2 r k))
  show V m c main_v13 (((cfg0.win 1).blk t).view.emb (ix2 r k)) = _
  rw [e, V_factors]

/-- so it is block diagonal. -/
theorem iblk1_blockDiag (c : Dev nD) (t : Fin cfg0.N) :
    Tile.BlockDiag (iblk m c 1 t) (fun j => argFi m c (ix1 j) * argWi m c (ix1 j)) (fun j => argWi m c (ix1 j)) := by
  intro r a j
  rw [iblk1_apply, iblk1_apply]
  exact factors_blockDiag _ _ r a j

/-- What grid point `t` writes back is its block of `rows`. -/
theorem flushed_eq (c : Dev nD) (t : Fin cfg0.N) :
    (dats m 0 c).flushed 3 t = (win0_3.blk t).view.read (Elt Ideal) (rows m c) := by
  show (cfg0.win 3).cut (grid0.coords t) ((dats m 0 c).after 3 t) = _
  rw [after0_3]
  funext y
  show out0_3 (iblk m c 0 t) (iblk m c 1 t) (iblk m c 2 t) y = at_ m c (queries (argX m c) ((win0_3.blk t).view.emb y))
  rw [Block.out_apply _ _ _ _ _ _ (iblk0_apply m c t) (iblk1_blockDiag m c t)]
  show at_ m c (V m c main_v0 ((win0_2.blk t).view.emb y)) = _
  rw [V_queries]
  rfl

/-- An index of the result array is in point `t`'s block exactly when its row is one of the block's 2048. -/
theorem mem_blk (t : Fin cfg0.N) (i : S8192x128.Idx) :
    i ∈ ((cfg0.win 3).blk t).view.set ↔ t.val * 2048 ≤ (i 0 : Nat) ∧ (i 0 : Nat) < t.val * 2048 + 2048 := by
  show i ∈ ((View.whole main_v16).slice (win0_3.rect t)).set ↔ _
  rw [View.set_slice_whole, Rect.mem_set_unit]
  have h1 : (i 1 : Nat) < 128 := (i 1).isLt
  have e : win0_3.index t 0 * win0_3.size 0 = t.val * 2048 ∧ win0_3.xsize (grid0.coords t) 0 = 2048
      ∧ win0_3.index t 1 * win0_3.size 1 = 0 ∧ win0_3.xsize (grid0.coords t) 1 = 128 := by
    rcases fin_N0 t with rfl | rfl | rfl | rfl <;> decide +kernel
  constructor
  · intro h
    have h0 : win0_3.index t 0 * win0_3.size 0 ≤ (i 0 : Nat)
        ∧ (i 0 : Nat) < win0_3.index t 0 * win0_3.size 0 + win0_3.xsize (grid0.coords t) 0 := h 0
    rwa [e.1, e.2.1] at h0
  · intro h a
    match a with
    | ⟨0, _⟩ =>
      show win0_3.index t 0 * win0_3.size 0 ≤ (i 0 : Nat)
        ∧ (i 0 : Nat) < win0_3.index t 0 * win0_3.size 0 + win0_3.xsize (grid0.coords t) 0
      rw [e.1, e.2.1]; exact h
    | ⟨1, _⟩ =>
      show win0_3.index t 1 * win0_3.size 1 ≤ (i 1 : Nat)
        ∧ (i 1 : Nat) < win0_3.index t 1 * win0_3.size 1 + win0_3.xsize (grid0.coords t) 1
      rw [e.2.2.1, e.2.2.2]; omega

/-- Every index of the result array is in the block of some point. -/
theorem cover (i : S8192x128.Idx) :
    ∃ t : Fin cfg0.N, (cfg0.win 3).flush t = true ∧ i ∈ ((cfg0.win 3).blk t).view.set := by
  have h0 : (i 0 : Nat) < 8192 := (i 0).isLt
  have hN : cfg0.N = 4 := N_0
  refine ⟨⟨(i 0 : Nat) / 2048, by omega⟩, flush0_3 _, ?_⟩
  rw [mem_blk]
  dsimp only
  omega

/-- So the call's result array ends holding `rows`. -/
theorem final (c : Dev nD) : (dats m 0 c).arrAt 3 cfg0.N = rows m c :=
  (dats m 0 c).arrAt_eq_of_cover 3 (rows m c) (fun t _ => flushed_eq m c t) cover

/-- The program's result is that array reshaped back, -/
theorem result_eq (c : Dev nD) :
    Pipeline.afterTail₀ cfgs (dats m) 0 (V0 m) [hostOps1] c main_v17
      = shapeCast S1048576 (rows m c) shapeCasts_S8192x128_S1048576 := by
  unfold Pipeline.afterTail₀
  simp only [List.flatten_cons, List.flatten_nil, List.append_nil]
  after_results
  have e := Pipeline.withArrays_arr spec0 winFacts0.arr_inj c (V0 m c) (fun w => (dats m 0 c).arrAt w (cfgs 0).N) 3
  exact congrArg (fun A => shapeCast S1048576 A shapeCasts_S8192x128_S1048576) (e.trans (final m c))

/-- An array of (8192, 128) reshaped to one axis, at an index. -/
theorem flat_apply (A : FVec Ideal S8192x128 .f32) (i : Fin 1048576) (p : Fin 8192) (l : Fin 128) (h : i.val = p.val * 128 + l.val) :
    shapeCast S1048576 A shapeCasts_S8192x128_S1048576 (ix1 i) = A (ix2 p l) :=
  shapeCast_apply _ _ _ _ (by rw [Shape.rowMajor_val_two, Shape.rowMajor_val_one]; exact h.symm)

/-- Entry `i` of the program's result is the per-query result of query `i`. -/
theorem result_apply (c : Dev nD) (i : Fin 1048576) :
    shapeCast S1048576 (rows m c) shapeCasts_S8192x128_S1048576 (ix1 i) = at_ m c (argX m c (ix1 i)) := by
  obtain ⟨p, l, h⟩ : ∃ (p : Fin 8192) (l : Fin 128), i.val = p.val * 128 + l.val :=
    ⟨⟨i.val / 128, by omega⟩, ⟨i.val % 128, by omega⟩, by dsimp only; omega⟩
  rw [flat_apply _ i p l h]
  exact congrArg (at_ m c) (queries_apply _ p l i h)

/-- The run, read: entry `i` of the result is the per-query result of query `i`, and the arguments are unchanged. -/
theorem run : θ_run defs (onTc (τ := τ) (main (F := Ideal))) ⟨m, fun _ => 0, ρ⟩ fun r => ∀ c : Dev nD,
      (∀ i : Fin 1048576, r.2.mem ((c : Thread nD τ).loc main_v17) (ix1 i) = at_ m c (argX m c (ix1 i)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      have rest : ∀ b : Ref sig .tc, b ∈ Pipeline.restRefs sig spec0 →
          r.2.mem ((c : Thread nD τ).loc b) = Pipeline.afterTail₀ cfgs (dats m) 0 (V0 m) [hostOps1] c b := (h c).2
      ⟨fun i => (congrFun ((rest main_v17 (Pipeline.mem_restRefs_of main_v17 (by decide) (by decide))).trans (result_eq m c)) (ix1 i)).trans
          (result_apply m c i),
        (rest main_arg0 (Pipeline.mem_restRefs_of main_arg0 (by decide) (by decide))).trans (W_main_arg0 m (dats m) c),
        (rest main_arg1 (Pipeline.mem_restRefs_of main_arg1 (by decide) (by decide))).trans (W_main_arg1 m (dats m) c),
        (rest main_arg2 (Pipeline.mem_restRefs_of main_arg2 (by decide) (by decide))).trans (W_main_arg2 m (dats m) c),
        (rest main_arg3 (Pipeline.mem_restRefs_of main_arg3 (by decide) (by decide))).trans (W_main_arg3 m (dats m) c)⟩)
    (run_main m ρ)

end Cert.Proof.KernelValue

end
-- ==== Proof.RefRun.lean ====
/-
  THE REFERENCE'S RUN: the program is a straight line of array operations, so its final memory is those operations folded
  over the arguments. `result_eq` gives the result: at each query the quotient of the two sums, replaced by a gathered
  node value where the query minus some node is zero. `run` is the run with the result and the arguments read off.
-/
module

public import proofs.«01_k».proof.Proof.Gen.ReferenceIdeal
public import Idealize.ShloMosaic.Lib.StableHlo.Run
public import Idealize.ShloMosaic.Lib.Quiescent

@[expose] public section

set_option maxRecDepth 8192

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The program's operations but the last, in order, its called functions in place. -/
abbrev head : List (HloOp τ sig (Elt F)) :=
  [ unary main_arg0 main_v0 (broadcastInDim S1048576x1 ![0] bcast_S1048576_S1048576x1_0),
    unary main_arg1 main_v1 (broadcastInDim S1x32 ![1] bcast_S32_S1x32_1),
    unary main_v0 main_v2 (broadcastInDim S1048576x32 ![0, 1] bcast_S1048576x1_S1048576x32_0_1),
    unary main_v1 main_v3 (broadcastInDim S1048576x32 ![0, 1] bcast_S1x32_S1048576x32_0_1),
    binary main_v2 main_v3 main_v4 subf,
    nullary main_cst (constant S_ .f32 0x00000000#32),
    unary main_cst main_v5 (broadcastInDim S1048576x32 ![] bcast_S_S1048576x32),
    binary main_v4 main_v5 main_v6 (cmpf .oeq),
    nullary main_cst_0 (constant S_ .f32 0x3F800000#32),
    unary main_cst_0 main_v7 (broadcastInDim S1048576x32 ![] bcast_S_S1048576x32),
    TRef.ternary (.of main_v6 : TRef sig ⟨S1048576x32, .i1⟩) (.of main_v7 : TRef sig ⟨S1048576x32, .f32⟩)
      (.of main_v4 : TRef sig ⟨S1048576x32, .f32⟩) (.of main_v8 : TRef sig ⟨S1048576x32, .f32⟩) select,
    nullary main_cst_1 (constant S_ .f32 0x3F800000#32),
    unary main_cst_1 main_v9 (broadcastInDim S1048576x32 ![] bcast_S_S1048576x32),
    binary main_v9 main_v8 main_v10 Host.divf,
    binary main_arg2 main_arg3 main_v11 mulf,
    binary main_v10 main_v11 main_v12 (fun l r => Host.dotGeneral dot_S1048576x32_S32_S1048576_1_0_0_n_n_n none l r),
    binary main_v10 main_arg3 main_v13 (fun l r => Host.dotGeneral dot_S1048576x32_S32_S1048576_1_0_0_n_n_n none l r),
    binary main_v12 main_v13 main_v14 Host.divf,
    nullary main_c (constantI S_ 1 0#1),
    binary main_v6 main_c main_v15 (fun x v => Host.reduce IntOp.ori x v reducesTo_S1048576x32_S1048576_d1 h_S_),
    TRef.nullary (.of main_call1_v0 : TRef sig ⟨S1048576x32, .i32⟩) (iotaInDim S1048576x32 32 1),
    TRef.nullary (.of main_call1_c : TRef sig ⟨S_, .i1⟩) (constantI S_ 1 0#1),
    TRef.nullary (.of main_call1_c_0 : TRef sig ⟨S_, .i32⟩) (constantI S_ 32 0#32),
    TRef.quaternary (.of main_v6 : TRef sig ⟨S1048576x32, .i1⟩) (.of main_call1_v0 : TRef sig ⟨S1048576x32, .i32⟩)
      (.of main_call1_c : TRef sig ⟨S_, .i1⟩) (.of main_call1_c_0 : TRef sig ⟨S_, .i32⟩)
      (.of main_call1_v1_0 : TRef sig ⟨S1048576, .i1⟩)
      (fun x y u v j => (Host.reduce2 reducer_argmax_i1_i32 x y u v reducesTo_S1048576x32_S1048576_d1 h_S_ j).1),
    TRef.quaternary (.of main_v6 : TRef sig ⟨S1048576x32, .i1⟩) (.of main_call1_v0 : TRef sig ⟨S1048576x32, .i32⟩)
      (.of main_call1_c : TRef sig ⟨S_, .i1⟩) (.of main_call1_c_0 : TRef sig ⟨S_, .i32⟩)
      (.of main_v16 : TRef sig ⟨S1048576, .i32⟩)
      (fun x y u v j => (Host.reduce2 reducer_argmax_i1_i32 x y u v reducesTo_S1048576x32_S1048576_d1 h_S_ j).2),
    nullary main_c_2 (constantI S_ 32 0#32),
    unary main_c_2 main_v17 (broadcastInDim S1048576 ![] bcast_S_S1048576),
    binary main_v16 main_v17 main_v18 (cmpi .slt),
    nullary main_c_3 (constantI S_ 32 32#32),
    unary main_c_3 main_v19 (broadcastInDim S1048576 ![] bcast_S_S1048576),
    binary main_v16 main_v19 main_v20 addi,
    ternary main_v18 main_v20 main_v16 main_v21 select,
    unary main_v21 main_v22 (broadcastInDim S1048576x1 ![0] bcast_S1048576_S1048576x1_0),
    binary main_arg2 main_v22 main_v23 (fun x i => Host.gather gather_S32_S1048576x1_S1048576_n_0_n_n_0_1_1 x i) ]

/-- The last operation: the gathered values where a node is hit, the quotients elsewhere. -/
abbrev last : HloOp τ sig (Elt F) :=
    TRef.ternary (.of main_v15 : TRef sig ⟨S1048576, .i1⟩) (.of main_v23 : TRef sig ⟨S1048576, .f32⟩)
      (.of main_v14 : TRef sig ⟨S1048576, .f32⟩) (.of main_v24 : TRef sig ⟨S1048576, .f32⟩) select

/-- The program's operations. -/
abbrev ops : List (HloOp τ sig (Elt F)) := head ++ [last]

/-- The program is that straight line. -/
theorem main_eq (c : Dev nD) : main (F := F) c = seq ops := rfl

/-- Query minus node, for every query and node. -/
def diffs (x : FVec F S1048576 .f32) (xi : FVec F S32 .f32) : FVec F S1048576x32 .f32 :=
  subf (broadcastInDim S1048576x32 ![0, 1] bcast_S1048576x1_S1048576x32_0_1
      (broadcastInDim S1048576x1 ![0] bcast_S1048576_S1048576x1_0 x))
    (broadcastInDim S1048576x32 ![0, 1] bcast_S1x32_S1048576x32_0_1 (broadcastInDim S1x32 ![1] bcast_S32_S1x32_1 xi))

/-- Where the difference is zero. -/
def hits (x : FVec F S1048576 .f32) (xi : FVec F S32 .f32) : IVec S1048576x32 1 :=
  cmpf .oeq (diffs x xi) (broadcastInDim S1048576x32 ![] bcast_S_S1048576x32 (constant S_ .f32 0x00000000#32))

/-- One over the difference, the difference taken as one at a hit. -/
def recips (x : FVec F S1048576 .f32) (xi : FVec F S32 .f32) : FVec F S1048576x32 .f32 :=
  Host.divf (broadcastInDim S1048576x32 ![] bcast_S_S1048576x32 (constant S_ .f32 0x3F800000#32))
    (select (hits x xi) (broadcastInDim S1048576x32 ![] bcast_S_S1048576x32 (constant S_ .f32 0x3F800000#32)) (diffs x xi))

/-- The quotient of the two sums over the nodes. -/
def quots (x : FVec F S1048576 .f32) (xi fi wi : FVec F S32 .f32) : FVec F S1048576 .f32 :=
  Host.divf (Host.dotGeneral dot_S1048576x32_S32_S1048576_1_0_0_n_n_n none (recips x xi) (mulf fi wi))
    (Host.dotGeneral dot_S1048576x32_S32_S1048576_1_0_0_n_n_n none (recips x xi) wi)

/-- Whether a query hits some node. -/
def anyHit (x : FVec F S1048576 .f32) (xi : FVec F S32 .f32) : IVec S1048576 1 :=
  Host.reduce IntOp.ori (hits x xi) (constantI S_ 1 0#1) reducesTo_S1048576x32_S1048576_d1 h_S_

/-- The buffer of hits after all operations but the last, -/
theorem anyHit_eq (V : Valuation τ sig (Elt F)) :
    after head V (main_v15 : DevRef τ sig) = anyHit (V (main_arg0 : DevRef τ sig)) (V (main_arg1 : DevRef τ sig)) := by
  after_results_simp
  rfl

/-- and the buffer of quotients. -/
theorem quots_eq (V : Valuation τ sig (Elt F)) :
    after head V (main_v14 : DevRef τ sig)
      = quots (V (main_arg0 : DevRef τ sig)) (V (main_arg1 : DevRef τ sig)) (V (main_arg2 : DevRef τ sig)) (V (main_arg3 : DevRef τ sig)) := by
  after_results_simp
  rfl

/-- The last operation's result from any contents. -/
theorem last_eq (V : Valuation τ sig (Elt F)) :
    after [last] V (main_v24 : DevRef τ sig)
      = (select (V (main_v15 : DevRef τ sig)) (V (main_v23 : DevRef τ sig)) (V (main_v14 : DevRef τ sig)) : FVec F S1048576 .f32) := by
  after_results_simp
  rfl

/-- The result: some gathered values where a node is hit, the quotients elsewhere. -/
theorem result_eq (V : Valuation τ sig (Elt F)) :
    after ops V (main_v24 : DevRef τ sig)
      = select (anyHit (V (main_arg0 : DevRef τ sig)) (V (main_arg1 : DevRef τ sig))) (after head V (main_v23 : DevRef τ sig))
          (quots (V (main_arg0 : DevRef τ sig)) (V (main_arg1 : DevRef τ sig)) (V (main_arg2 : DevRef τ sig)) (V (main_arg3 : DevRef τ sig))) := by
  rw [show after ops V = after [last] (after head V) from rfl, last_eq, anyHit_eq, quots_eq]

/-- No operation writes an argument. -/
theorem arg0_eq (V : Valuation τ sig (Elt F)) : after ops V (main_arg0 : DevRef τ sig) = V (main_arg0 : DevRef τ sig) := by
  simp only [List.cons_append, List.nil_append]
  after_results
theorem arg1_eq (V : Valuation τ sig (Elt F)) : after ops V (main_arg1 : DevRef τ sig) = V (main_arg1 : DevRef τ sig) := by
  simp only [List.cons_append, List.nil_append]
  after_results
theorem arg2_eq (V : Valuation τ sig (Elt F)) : after ops V (main_arg2 : DevRef τ sig) = V (main_arg2 : DevRef τ sig) := by
  simp only [List.cons_append, List.nil_append]
  after_results
theorem arg3_eq (V : Valuation τ sig (Elt F)) : after ops V (main_arg3 : DevRef τ sig) = V (main_arg3 : DevRef τ sig) := by
  simp only [List.cons_append, List.nil_append]
  after_results

/-- The signature has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's buffers only. -/
theorem ops_sub : (ops : List (HloOp τ sig (Elt F))).Forall fun op => op.bufs ⊆ tcRefs τ sig := by
  simp only [List.cons_append, List.nil_append, List.Forall, nullary_bufs_sub, unary_bufs_sub, binary_bufs_sub, ternary_bufs_sub, quaternary_bufs_sub, and_self]

variable (m : (ℓ : Loc nD τ sig) → Buf (Elt F) ℓ) (ρ : Dev nD → PrngReg)

/-- The run: the result is `select` of the gathered values and the quotients by `anyHit` for some gathered values, and the
    arguments are unchanged. -/
theorem run : θ_run defs (onTc (τ := τ) (main (F := F))) ⟨m, fun _ => 0, ρ⟩ fun r => ∀ c : Dev nD,
      (∃ z : FVec F S1048576 .f32, r.2.mem ((c : Thread nD τ).loc main_v24)
        = select (anyHit (m ((c : Thread nD τ).loc main_arg0)) (m ((c : Thread nD τ).loc main_arg1))) z
            (quots (m ((c : Thread nD τ).loc main_arg0)) (m ((c : Thread nD τ).loc main_arg1))
              (m ((c : Thread nD τ).loc main_arg2)) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨⟨_, (h c main_v24).trans (result_eq _)⟩, (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

/-- Every run leaves the arguments unchanged and every semaphore at zero. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => (h c).2, Idealize.ShloMosaic.sem_eq_zero_of_no_sems (by decide) r.2⟩) (run m ρ)

end Cert.Proof.RefRun

end
-- ==== Proof.Spread.lean ====
/-
  The host operations both the reference and the mask use, read at a query and a node, at any number `n` of queries and `k`
  of nodes: a vector of queries spread over the nodes (`rows_apply`), a vector of nodes spread over the queries
  (`cols_apply`), the product of an (n, k) matrix with a vector (`dot_apply`), and «some» and «every» along the nodes
  (`any_eq_zero`, `all_eq_one`).
-/
module

public import Idealize.ShloMosaic.PureOps
public import Idealize.ShloMosaic.PureOps.Reduce
public import Idealize.ShloMosaic.PureOps.Ideal.Laws
public import Idealize.ShloMosaic.Lib.ReduceAll
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.Proof.Spread

open Idealize.ShloMosaic Idealize.ShloMosaic.ValueIdx

variable {n k : Nat} {α : Type}

/-- A vector made a column and spread over `k` columns holds at (q, j) its entry `q`. -/
theorem rows_apply (h0 : (⟨1, ![n]⟩ : Shape).BroadcastsInDim ⟨2, ![n, 1]⟩ ![0])
    (h1 : (⟨2, ![n, 1]⟩ : Shape).BroadcastsInDim ⟨2, ![n, k]⟩ ![0, 1]) (x : (⟨1, ![n]⟩ : Shape).Idx → α) (q : Fin n) (j : Fin k) :
    broadcastInDim ⟨2, ![n, k]⟩ ![0, 1] h1 (broadcastInDim ⟨2, ![n, 1]⟩ ![0] h0 x) (ix2 q j) = x (ix1 q) := by
  have hq : q.val = if n = 1 then 0 else q.val := by
    have := q.isLt
    split <;> omega
  rw [broadcastInDim_apply _ _ _ _ (ix2 q (0 : Fin 1)) (by intro b; match b with | ⟨0, _⟩ => exact hq | ⟨1, _⟩ => rfl)]
  exact broadcastInDim_apply _ _ _ _ _ (by intro b; match b with | ⟨0, _⟩ => exact hq)

/-- A vector made a row and spread over `n` rows holds at (q, j) its entry `j`. -/
theorem cols_apply (h0 : (⟨1, ![k]⟩ : Shape).BroadcastsInDim ⟨2, ![1, k]⟩ ![1])
    (h1 : (⟨2, ![1, k]⟩ : Shape).BroadcastsInDim ⟨2, ![n, k]⟩ ![0, 1]) (x : (⟨1, ![k]⟩ : Shape).Idx → α) (q : Fin n) (j : Fin k) :
    broadcastInDim ⟨2, ![n, k]⟩ ![0, 1] h1 (broadcastInDim ⟨2, ![1, k]⟩ ![1] h0 x) (ix2 q j) = x (ix1 j) := by
  have hj : j.val = if k = 1 then 0 else j.val := by
    have := j.isLt
    split <;> omega
  rw [broadcastInDim_apply _ _ _ _ (ix2 (0 : Fin 1) j) (by intro b; match b with | ⟨0, _⟩ => rfl | ⟨1, _⟩ => exact hj)]
  exact broadcastInDim_apply _ _ _ _ _ (by intro b; match b with | ⟨0, _⟩ => exact hj)

/-- The dimension numbers of a matrix times a vector. -/
abbrev matVec (wf : DotDims.WF ⟨2, ![n, k]⟩ ⟨1, ![k]⟩ ⟨1, ![n]⟩ [1] [0] [0] [] [] []) :
    DotDims ⟨2, ![n, k]⟩ ⟨1, ![k]⟩ ⟨1, ![n]⟩ :=
  ⟨[1], [0], [0], [], [], [], wf⟩

/-- A matrix times a vector at `q`: the sum along row `q`. -/
theorem dot_apply (wf : DotDims.WF ⟨2, ![n, k]⟩ ⟨1, ![k]⟩ ⟨1, ![n]⟩ [1] [0] [0] [] [] [])
    (A : FVec Ideal ⟨2, ![n, k]⟩ .f32) (g : FVec Ideal ⟨1, ![k]⟩ .f32) (q : Fin n) :
    Host.dotGeneral (matVec wf) none A g (ix1 q) = ∑ j : Fin k, A (ix2 q j) * g (ix1 j) := by
  show FloatOps.dotGeneral (matVec wf) none _ A g (ix1 q) = _
  rw [Ideal.dotGeneral_apply, ← Equiv.sum_comp (contrEquiv1 (matVec wf) k rfl rfl).symm]
  refine Finset.sum_congr rfl fun j _ => ?_
  have hj := contrEquiv1_symm_val (matVec wf) k rfl rfl j
  have el : (matVec wf).lhsIdx (ix1 q) ((contrEquiv1 (matVec wf) k rfl rfl).symm j) = ix2 q j := by
    funext a; apply Fin.ext
    match a with
    | ⟨0, _⟩ => rfl
    | ⟨1, _⟩ => exact hj
  have er : (matVec wf).rhsIdx (ix1 q) ((contrEquiv1 (matVec wf) k rfl rfl).symm j) = ix1 j := by
    funext a; apply Fin.ext
    match a with
    | ⟨0, _⟩ => exact hj
  rw [el, er]

/-- A reduction along the nodes takes (q, j) to `q`. -/
theorem drop_eq (h : (⟨2, ![n, k]⟩ : Shape).ReducesTo [1] ⟨1, ![n]⟩) (q : Fin n) (j : Fin k) : h.drop (ix2 q j) = ix1 q := by
  funext b; apply Fin.ext
  match b with
  | ⟨0, _⟩ => rfl

/-- A left fold by «or» over zeros, from zero, is zero. -/
theorem foldl_ori_zero {ι : Type} (f : ι → BitVec 1) :
    ∀ l : List ι, (∀ i ∈ l, f i = 0#1) → l.foldl (fun r i => IntOp.ori r (f i)) 0#1 = 0#1
  | [], _ => rfl
  | a :: l, h => by
    rw [List.foldl_cons, h a (List.mem_cons_self ..)]
    exact foldl_ori_zero f l fun i hi => h i (List.mem_cons_of_mem _ hi)

/-- «Some» along the nodes is 0 at `q` when every bit of row `q` is 0. -/
theorem any_eq_zero {u : Shape} (h : (⟨2, ![n, k]⟩ : Shape).ReducesTo [1] ⟨1, ![n]⟩) (hu : 0 < u.numel)
    (x : IVec ⟨2, ![n, k]⟩ 1) (q : Fin n) (hx : ∀ j, x (ix2 q j) = 0#1) :
    Host.reduce IntOp.ori x (constantI u 1 0#1) h hu (ix1 q) = 0#1 := by
  rw [Host.reduce_eq_foldl]
  refine foldl_ori_zero x _ fun i hi => ?_
  have hd : h.drop i = ix1 q := by simpa using (List.mem_filter.1 hi).2
  obtain ⟨a, b, rfl⟩ : ∃ (a : Fin n) (b : Fin k), i = ix2 a b := ⟨i 0, i 1, eq_ix2 i⟩
  rw [drop_eq] at hd
  have ha : a = q := congrFun hd 0
  rw [ha]; exact hx b

/-- Where «every» along the nodes is 1 at `q`, each bit of row `q` is 1. -/
theorem all_eq_one {u : Shape} (h : (⟨2, ![n, k]⟩ : Shape).ReducesTo [1] ⟨1, ![n]⟩) (hu : 0 < u.numel)
    (x : IVec ⟨2, ![n, k]⟩ 1) (init : IVec u 1) (q : Fin n) (e : Host.reduce IntOp.andi x init h hu (ix1 q) = 1#1) (j : Fin k) :
    x (ix2 q j) = 1#1 :=
  Host.reduce_andi_eq_one x init h hu _ e _ (drop_eq h q j)

end Cert.Proof.Spread

end
-- ==== Proof.RefValue.lean ====
/-
  THE REFERENCE'S RESULT, query by query, at the ideal values: at a query that minus no node is zero it is `Bary.quot`, the
  barycentric quotient.
-/
module

public import proofs.«01_k».proof.Proof.RefRun
public import proofs.«01_k».proof.Proof.Spread
public import proofs.«01_k».proof.Proof.Bary

@[expose] public section

noncomputable section

namespace Cert.Proof.RefValue

open Cert.ReferenceIdeal Cert.ReferenceIdeal.Gen
open Idealize.ShloMosaic Idealize.ShloMosaic.ValueIdx
open Cert.Proof.RefRun

variable (x : FVec Ideal S1048576 .f32) (xi fi wi : FVec Ideal S32 .f32) (q : Fin 1048576)

/-- The difference at a query and a node. -/
theorem diffs_apply (j : Fin 32) : diffs x xi (ix2 q j) = x (ix1 q) - xi (ix1 j) := by
  unfold diffs
  rw [subf_apply, Spread.rows_apply, Spread.cols_apply]

/-- A query that minus a node is not zero does not hit it. -/
theorem hits_apply {j : Fin 32} (h : x (ix1 q) - xi (ix1 j) ≠ 0) : hits x xi (ix2 q j) = 0#1 := by
  show Ideal.cmp .oeq (diffs x xi (ix2 q j)) (Ideal.ofBits .f32 0x00000000#32) = 0#1
  rw [diffs_apply, Ideal.ofBits_zero_f32]
  show BitVec.ofBool (decide _) = _
  rw [decide_eq_false h]; rfl

/-- There the reciprocal is one over the difference. -/
theorem recips_apply {j : Fin 32} (h : x (ix1 q) - xi (ix1 j) ≠ 0) :
    recips x xi (ix2 q j) = Bary.recip (x (ix1 q)) (fun j => xi (ix1 j)) j := by
  show Ideal.div (Ideal.ofBits .f32 0x3F800000#32) (Scalar.select (hits x xi (ix2 q j)) _ (diffs x xi (ix2 q j))) = _
  rw [hits_apply x xi q h, select_zero, diffs_apply, Ideal.ofBits_one_f32]
  rfl

/-- The quotient of the sums, at a query off every node. -/
theorem quots_apply (h : ∀ j, x (ix1 q) - xi (ix1 j) ≠ 0) :
    quots x xi fi wi (ix1 q)
      = Bary.quot (x (ix1 q)) (fun j => xi (ix1 j)) (fun j => fi (ix1 j)) (fun j => wi (ix1 j)) := by
  have e : ∀ g : FVec Ideal S32 .f32,
      Host.dotGeneral dot_S1048576x32_S32_S1048576_1_0_0_n_n_n none (recips x xi) g (ix1 q)
        = ∑ j, Bary.recip (x (ix1 q)) (fun j => xi (ix1 j)) j * g (ix1 j) := fun g =>
    (Spread.dot_apply _ (recips x xi) g q).trans (Finset.sum_congr rfl fun j _ => by rw [recips_apply x xi q (h j)])
  unfold quots
  rw [hostDivf_apply, e, e]
  rfl

/-- The result at a query off every node, whatever values were gathered. -/
theorem result_apply (z : FVec Ideal S1048576 .f32) (h : ∀ j, x (ix1 q) - xi (ix1 j) ≠ 0) :
    select (anyHit x xi) z (quots x xi fi wi) (ix1 q)
      = Bary.quot (x (ix1 q)) (fun j => xi (ix1 j)) (fun j => fi (ix1 j)) (fun j => wi (ix1 j)) := by
  have e : anyHit x xi (ix1 q) = 0#1 := Spread.any_eq_zero _ _ _ q fun j => hits_apply x xi q (h j)
  rw [select_apply, e, select_zero, quots_apply x xi fi wi q h]

end Cert.Proof.RefValue

end
-- ==== Proof.Mask.lean ====
/-
  WHERE THE EQUALITY IS CLAIMED: the mask `off_nodes` at a query. Where it is set, no reciprocal of query minus node exceeds
  the kernel's cap and the quotient is finite.
-/
module

public import proofs.«01_k».proof.Proof.Gen.On_off_nodes
public import proofs.«01_k».proof.Proof.Spread
public import proofs.«01_k».proof.Proof.Bary
public import Idealize.ShloMosaic.Lib.WordArith

@[expose] public section

noncomputable section

namespace Cert.Proof.Mask

open Cert.On_off_nodes Cert.On_off_nodes.Gen
open Idealize.ShloMosaic Idealize.ShloMosaic.ValueIdx

variable (x : FVec Ideal S1048576 .f32) (xi fi wi : FVec Ideal S32 .f32) (q : Fin 1048576)

/-- The mask's reciprocals. -/
def recips : FVec Ideal S1048576x32 .f32 :=
  Host.divf (broadcastInDim S1048576x32 ![] bcast_S_S1048576x32 (constant S_ .f32 0x3F800000#32))
    (subf (broadcastInDim S1048576x32 ![0, 1] bcast_S1048576x1_S1048576x32_0_1
        (broadcastInDim S1048576x1 ![0] bcast_S1048576_S1048576x1_0 x))
      (broadcastInDim S1048576x32 ![0, 1] bcast_S1x32_S1048576x32_0_1 (broadcastInDim S1x32 ![1] bcast_S32_S1x32_1 xi)))

/-- The mask's quotients. -/
def quots : FVec Ideal S1048576 .f32 :=
  Host.divf (Host.dotGeneral dot_S1048576x32_S32_S1048576_1_0_0_n_n_n none (recips x xi) (mulf fi wi))
    (Host.dotGeneral dot_S1048576x32_S32_S1048576_1_0_0_n_n_n none (recips x xi) wi)

theorem recips_apply (j : Fin 32) : recips x xi (ix2 q j) = Bary.recip (x (ix1 q)) (fun j => xi (ix1 j)) j := by
  unfold recips
  rw [hostDivf_apply, subf_apply, Spread.rows_apply, Spread.cols_apply]
  show Ideal.div (Ideal.ofBits .f32 0x3F800000#32) _ = _
  rw [Ideal.ofBits_one_f32]
  rfl

theorem quots_apply : quots x xi fi wi (ix1 q)
    = Bary.quot (x (ix1 q)) (fun j => xi (ix1 j)) (fun j => fi (ix1 j)) (fun j => wi (ix1 j)) := by
  have e : ∀ g : FVec Ideal S32 .f32,
      Host.dotGeneral dot_S1048576x32_S32_S1048576_1_0_0_n_n_n none (recips x xi) g (ix1 q)
        = ∑ j, Bary.recip (x (ix1 q)) (fun j => xi (ix1 j)) j * g (ix1 j) := fun g =>
    (Spread.dot_apply _ (recips x xi) g q).trans (Finset.sum_congr rfl fun j _ => by rw [recips_apply])
  unfold quots
  rw [hostDivf_apply, e, e]
  rfl

/-- The mask is the «and» of «every reciprocal is at most the cap» and «the quotient's magnitude is below infinity». -/
theorem fn_eq : fn x xi fi wi
    = andi (Host.reduce IntOp.andi
        (cmpf .ole (recips x xi) (broadcastInDim S1048576x32 ![] bcast_S_S1048576x32 (constant S_ .f32 0x67560000#32)))
        (constantI S_ 1 1#1) reducesTo_S1048576x32_S1048576_d1 h_S_)
      (cmpf .olt (Host.absf (quots x xi fi wi)) (broadcastInDim S1048576 ![] bcast_S_S1048576 (constant S_ .f32 0x7F800000#32))) := rfl

/-- Where the mask is set, every reciprocal is at most the cap and the quotient is finite. -/
theorem of_fn (h : fn x xi fi wi (ix1 q) = 1#1) :
    (∀ j, Bary.recip (x (ix1 q)) (fun j => xi (ix1 j)) j ≤ Bary.CAP)
      ∧ max (Bary.quot (x (ix1 q)) (fun j => xi (ix1 j)) (fun j => fi (ix1 j)) (fun j => wi (ix1 j)))
          (-Bary.quot (x (ix1 q)) (fun j => xi (ix1 j)) (fun j => fi (ix1 j)) (fun j => wi (ix1 j))) < ⊤ := by
  rw [fn_eq] at h
  obtain ⟨ha, hb⟩ := IntOp.andi_eq_one.1 h
  constructor
  · intro j
    have e := Spread.all_eq_one _ _ _ _ q ha j
    change BitVec.ofBool (decide (recips x xi (ix2 q j) ≤ Ideal.ofBits .f32 0x67560000#32)) = 1#1 at e
    rw [recips_apply, Bary.ofBits_cap_f32] at e
    exact of_decide_eq_true ((WordArith.ofBool_eq_one_iff _).1 e)
  · change BitVec.ofBool (decide (max (quots x xi fi wi (ix1 q)) (-quots x xi fi wi (ix1 q)) < Ideal.ofBits .f32 0x7F800000#32)) = 1#1 at hb
    rw [quots_apply, Bary.ofBits_inf_f32] at hb
    exact of_decide_eq_true ((WordArith.ofBool_eq_one_iff _).1 hb)

end Cert.Proof.Mask

end
-- ==== Proof.lean ====
/-
  THE CLAIM: the kernel, its idealization and the reference run to the end with their arguments unchanged and every
  semaphore at zero; the idealization is the kernel's own text; and over the extended reals the kernel's result and the
  reference's are equal at every query where the mask `off_nodes` is set.

  At such a query both are `Bary.quot`, the barycentric quotient: the kernel by Proof/KernelValue.lean and
  `Bary.kernelOut_eq_quot` (`kernel_side`), the reference by Proof/RefValue.lean (`reference_side`).
-/
module

public import proofs.«01_k».proof.Defs
public import proofs.«01_k».proof.Proof.Gen.Kernel.Frame
public import proofs.«01_k».proof.Proof.KernelValue
public import proofs.«01_k».proof.Proof.RefValue
public import proofs.«01_k».proof.Proof.Mask

@[expose] public section

noncomputable section

namespace Cert.Proof

open Idealize.ShloMosaic Idealize.ShloMosaic.TcCoe Idealize.ShloMosaic.ValueIdx Idealize.SL.Sem

/-- The barycentric quotient at every query. -/
def value (x : FVec Ideal ⟨1, ![1048576]⟩ .f32) (xi fi wi : FVec Ideal ⟨1, ![32]⟩ .f32) : FVec Ideal ⟨1, ![1048576]⟩ .f32 :=
  fun i => Bary.quot (x i) (fun j => xi (ix1 j)) (fun j => fi (ix1 j)) (fun j => wi (ix1 j))

variable (x : FVec Ideal ⟨1, ![1048576]⟩ .f32) (xi fi wi : FVec Ideal ⟨1, ![32]⟩ .f32) (q : Fin 1048576)

/-- Where the mask is set, the kernel's per-query result is the quotient. -/
theorem kernel_side (h : Cert.On_off_nodes.fn x xi fi wi (ix1 q) = 1#1) :
    Bary.kernelOut (x (ix1 q)) (fun j => xi (ix1 j)) (fun j => fi (ix1 j)) (fun j => wi (ix1 j)) = value x xi fi wi (ix1 q) :=
  Bary.kernelOut_eq_quot (Mask.of_fn x xi fi wi q h).1 (Mask.of_fn x xi fi wi q h).2

/-- Where the mask is set, the reference's result is the quotient. -/
theorem reference_side (z : FVec Ideal ⟨1, ![1048576]⟩ .f32) (h : Cert.On_off_nodes.fn x xi fi wi (ix1 q) = 1#1) :
    select (RefRun.anyHit x xi) z (RefRun.quots x xi fi wi) (ix1 q) = value x xi fi wi (ix1 q) :=
  RefValue.result_apply x xi fi wi q z fun j => Bary.sub_ne_zero_of_recip_le ((Mask.of_fn x xi fi wi q h).1 j)

/-- The kernel's result and the reference's are equal where the mask is set. -/
theorem algebraic : Cert.algebraic_KernelIdeal_ReferenceIdeal_on_off_nodes := by
  intro m g m' g' _ hm
  refine ⟨fun c => value (KernelValue.argX m c) (KernelValue.argXi m c) (KernelValue.argFi m c) (KernelValue.argWi m c),
    (θ_run _ _ _).mono (fun r h c => ⟨fun i hi => ?_, (h c).2⟩) (KernelValue.run m g),
    (θ_run _ _ _).mono (fun r h c => ⟨fun i hi => ?_, (h c).2⟩) (RefRun.run m' g')⟩
  · obtain ⟨q, rfl⟩ : ∃ q : Fin 1048576, i = ix1 q := ⟨i 0, eq_ix1 i⟩
    exact ((h c).1 q).trans (kernel_side _ _ _ _ q hi)
  · obtain ⟨q, rfl⟩ : ∃ q : Fin 1048576, i = ix1 q := ⟨i 0, eq_ix1 i⟩
    obtain ⟨z, hz⟩ := (h c).1
    obtain ⟨h0, h1, h2, h3⟩ := hm c
    refine (congrFun hz (ix1 q)).trans ?_
    rw [h0, h1, h2, h3]
    exact reference_side _ _ _ _ q z hi

theorem claim : Cert.Claim :=
  ⟨Cert.Kernel.Gen.facts, Cert.KernelIdeal.Gen.facts, Cert.ReferenceIdeal.Gen.facts, Cert.On_off_nodes.Gen.facts,
    fun m ρ _ => Cert.Kernel.Gen.frame m ρ, fun m ρ _ => Cert.KernelIdeal.Gen.frame m ρ, fun m ρ _ => RefRun.frame m ρ,
    trivial, algebraic⟩

end Cert.Proof

end
